-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x577x768 : Shape := ⟨3, ![128, 577, 768]⟩
abbrev S128x768 : Shape := ⟨2, ![128, 768]⟩
abbrev S1024x768 : Shape := ⟨2, ![1024, 768]⟩
abbrev S128 : Shape := ⟨1, ![128]⟩
abbrev S128x64 : Shape := ⟨2, ![128, 64]⟩
abbrev S768x512 : Shape := ⟨2, ![768, 512]⟩
abbrev S512 : Shape := ⟨1, ![512]⟩
abbrev S1x512 : Shape := ⟨2, ![1, 512]⟩
abbrev S577x128x768 : Shape := ⟨3, ![577, 128, 768]⟩
abbrev S128x512 : Shape := ⟨2, ![128, 512]⟩
abbrev S1x128x768 : Shape := ⟨3, ![1, 128, 768]⟩

abbrev nBuf : Space → Nat
  | .hbm => 18
  | .vmem => 8
  | .smem => 0
  | _ => 0

abbrev bufTy : (tb : Table) → Fin (tcTables nBuf tb) → BufTy
  | .hbm, ⟨0, _⟩ => ⟨S128x577x768, .f32⟩
  | .hbm, ⟨1, _⟩ => ⟨S128x768, .f32⟩
  | .hbm, ⟨2, _⟩ => ⟨S1024x768, .f32⟩
  | .hbm, ⟨3, _⟩ => ⟨S128, .i32⟩
  | .hbm, ⟨4, _⟩ => ⟨S128x64, .i32⟩
  | .hbm, ⟨5, _⟩ => ⟨S768x512, .f32⟩
  | .hbm, ⟨6, _⟩ => ⟨S512, .f32⟩
  | .hbm, ⟨7, _⟩ => ⟨S768x512, .f32⟩
  | .hbm, ⟨8, _⟩ => ⟨S512, .f32⟩
  | .hbm, ⟨9, _⟩ => ⟨S768x512, .f32⟩
  | .hbm, ⟨10, _⟩ => ⟨S512, .f32⟩
  | .hbm, ⟨11, _⟩ => ⟨S768x512, .f32⟩
  | .hbm, ⟨12, _⟩ => ⟨S512, .f32⟩
  | .hbm, ⟨13, _⟩ => ⟨S1x512, .f32⟩
  | .hbm, ⟨14, _⟩ => ⟨S1x512, .f32⟩
  | .hbm, ⟨15, _⟩ => ⟨S577x128x768, .f32⟩
  | .hbm, ⟨16, _⟩ => ⟨S128x512, .f32⟩
  | .hbm, ⟨17, _⟩ => ⟨S128x512, .f32⟩
  | .local _ .vmem, ⟨0, _⟩ => ⟨S1x128x768, .f32⟩
  | .local _ .vmem, ⟨1, _⟩ => ⟨S128x768, .f32⟩
  | .local _ .vmem, ⟨2, _⟩ => ⟨S768x512, .f32⟩
  | .local _ .vmem, ⟨3, _⟩ => ⟨S1x512, .f32⟩
  | .local _ .vmem, ⟨4, _⟩ => ⟨S768x512, .f32⟩
  | .local _ .vmem, ⟨5, _⟩ => ⟨S1x512, .f32⟩
  | .local _ .vmem, ⟨6, _⟩ => ⟨S128x512, .f32⟩
  | .local _ .vmem, ⟨7, _⟩ => ⟨S128x512, .f32⟩
  | _, _ => ⟨S128x577x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S128x577x768 : Shape := ⟨3, ![128, 577, 768]⟩
abbrev S128x768 : Shape := ⟨2, ![128, 768]⟩
abbrev S1024x768 : Shape := ⟨2, ![1024, 768]⟩
abbrev S128 : Shape := ⟨1, ![128]⟩
abbrev S128x64 : Shape := ⟨2, ![128, 64]⟩
abbrev S768x512 : Shape := ⟨2, ![768, 512]⟩
abbrev S512 : Shape := ⟨1, ![512]⟩
abbrev S128x1x768 : Shape := ⟨3, ![128, 1, 768]⟩
abbrev S128x512 : Shape := ⟨2, ![128, 512]⟩
abbrev S1x512 : Shape := ⟨2, ![1, 512]⟩

abbrev nBuf : Space → Nat
  | .hbm => 23
  | .vmem => 0
  | .smem => 0
  | _ => 0

abbrev bufTy : (tb : Table) → Fin (tcTables nBuf tb) → BufTy
  | .hbm, ⟨0, _⟩ => ⟨S128x577x768, .f32⟩
  | .hbm, ⟨1, _⟩ => ⟨S128x768, .f32⟩
  | .hbm, ⟨2, _⟩ => ⟨S1024x768, .f32⟩
  | .hbm, ⟨3, _⟩ => ⟨S128, .i32⟩
  | .hbm, ⟨4, _⟩ => ⟨S128x64, .i32⟩
  | .hbm, ⟨5, _⟩ => ⟨S768x512, .f32⟩
  | .hbm, ⟨6, _⟩ => ⟨S512, .f32⟩
  | .hbm, ⟨7, _⟩ => ⟨S768x512, .f32⟩
  | .hbm, ⟨8, _⟩ => ⟨S512, .f32⟩
  | .hbm, ⟨9, _⟩ => ⟨S768x512, .f32⟩
  | .hbm, ⟨10, _⟩ => ⟨S512, .f32⟩
  | .hbm, ⟨11, _⟩ => ⟨S768x512, .f32⟩
  | .hbm, ⟨12, _⟩ => ⟨S512, .f32⟩
  | .hbm, ⟨13, _⟩ => ⟨S128x1x768, .f32⟩
  | .hbm, ⟨14, _⟩ => ⟨S128x768, .f32⟩
  | .hbm, ⟨15, _⟩ => ⟨S128x512, .f32⟩
  | .hbm, ⟨16, _⟩ => ⟨S1x512, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S1x512, .f32⟩
  | .hbm, ⟨21, _⟩ => ⟨S128x512, .f32⟩
  | .hbm, ⟨22, _⟩ => ⟨S128x512, .f32⟩
  | _, _ => ⟨S128x577x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Proof.Head.Layer.lean ====
/-
  The mathematics of the head: two affine layers over the extended reals, read entry by entry. No program is mentioned here;
  `KernelValue` and `ReferenceValue` show that the kernel and the reference compute these functions.
-/
module

public import Idealize.ShloMosaic.PureOps.Ideal
public import Idealize.ShloMosaic.Lib.ValueIdx

@[expose] public section

noncomputable section

namespace Cert.Head

open Idealize.ShloMosaic Idealize.ShloMosaic.ValueIdx

/-- One entry of an affine layer: the row `x` of 768 features against a column `w` of the weights, plus the bias `b`. -/
def affine (x w : Fin 768 → EReal) (b : EReal) : EReal := (∑ k, x k * w k) + b

/-- The textual embedding: each of the 128 feature rows through the layer with weights `w` and bias `b`. -/
def textual (x : (⟨2, ![128, 768]⟩ : Shape).Idx → EReal) (w : (⟨2, ![768, 512]⟩ : Shape).Idx → EReal)
    (b : (⟨1, ![512]⟩ : Shape).Idx → EReal) : (⟨2, ![128, 512]⟩ : Shape).Idx → EReal := fun i =>
  affine (fun k => x (ix2 (i 0) k)) (fun k => w (ix2 k (i 1))) (b (ix1 (i 1)))

/-- The visual embedding: of each image's 577 tokens the first one alone, through the layer with weights `w` and bias `b`. -/
def visual (x : (⟨3, ![128, 577, 768]⟩ : Shape).Idx → EReal) (w : (⟨2, ![768, 512]⟩ : Shape).Idx → EReal)
    (b : (⟨1, ![512]⟩ : Shape).Idx → EReal) : (⟨2, ![128, 512]⟩ : Shape).Idx → EReal := fun i =>
  affine (fun k => x (ix3 (i 0) (0 : Fin 577) k)) (fun k => w (ix2 k (i 1))) (b (ix1 (i 1)))

end Cert.Head

end
-- ==== Proof.Head.KernelValue.lean ====
/-
  The kernel's two result arrays are the embeddings of `Layer`. In order: the host code before the call (a transpose and
  two reshapes), the blocks that the one grid point loads, the two stored values, and the arrays after the run.
-/
module

public import proofs.«01_k».proof.Proof.Head.Layer
public import proofs.«01_k».proof.Proof.Gen.KernelIdeal.Value
public import Idealize.ShloMosaic.Lib.MatmulPlain
public import Idealize.ShloMosaic.Lib.ValueLayout
public import Idealize.ShloMosaic.Lib.StableHlo.Run

@[expose] public section

noncomputable section

namespace Cert.Head.Kernel

open Cert.KernelIdeal Cert.KernelIdeal.Gen Idealize.ShloMosaic Idealize.ShloMosaic.TcCoe Idealize.ShloMosaic.ValueIdx
open Idealize.SL.Sem
open Idealize.ShloMosaic.Pipeline (Dat)

/-! ## The two stored values, entry by entry -/

/-- A product into the zero accumulator plus a broadcast bias row, at an entry: that entry of an affine layer. -/
theorem layer_apply (x : FVec Ideal S128x768 .f32) (w : FVec Ideal S768x512 .f32) (b : FVec Ideal S1x512 .f32)
    (r : Fin 128) (n : Fin 512) :
    addf (matmul dot_S128x768_S768x512_S128x512_1_0_0_1_n_n none x w (constant S128x512 .f32 0x00000000#32))
        (broadcastTo S128x512 (shapeCast S1x512 b shapeCasts_S1x512_S1x512) broadcasts_S1x512_S128x512) (ix2 r n)
      = affine (fun k => x (ix2 r k)) (fun k => w (ix2 k n)) (b (ix2 (0 : Fin 1) n)) := by
  rw [addf_apply, broadcastTo_1b_ab_apply, shapeCast_self]
  unfold affine
  refine congrArg (· + _) ?_
  refine (Ideal.matmul_plain_apply (M := 128) (K := 768) (N := 512) none x w _ r n).trans ?_
  rw [constant_apply, Ideal.ofBits_zero_f32, zero_add]

/-- The first stored value, whose features arrive with a leading unit axis. -/
theorem pay1_apply (x : FVec Ideal S1x128x768 .f32) (w : FVec Ideal S768x512 .f32) (b : FVec Ideal S1x512 .f32)
    (r : Fin 128) (n : Fin 512) :
    k0_pay1 (F := Ideal) x w b (ix2 r n)
      = affine (fun k => x (ix3 (0 : Fin 1) r k)) (fun k => w (ix2 k n)) (b (ix2 (0 : Fin 1) n)) := by
  refine (layer_apply (shapeCast S128x768 x shapeCasts_S1x128x768_S128x768) w b r n).trans ?_
  simp only [shapeCast_1ab_ab_apply]

/-- The second stored value. -/
theorem pay2_apply (x : FVec Ideal S128x768 .f32) (w : FVec Ideal S768x512 .f32) (b : FVec Ideal S1x512 .f32)
    (r : Fin 128) (n : Fin 512) :
    k0_pay2 (F := Ideal) x w b (ix2 r n)
      = affine (fun k => x (ix2 r k)) (fun k => w (ix2 k n)) (b (ix2 (0 : Fin 1) n)) :=
  layer_apply x w b r n

variable (m : (ℓ : Loc nD τ sig) → Buf (Elt Ideal) ℓ) (c : Dev nD)

/-! ## The arrays that the call finds -/

/-- The transposed features at (token, image, feature) are the features at (image, token, feature). -/
theorem entry_features (s : Fin 577) (r : Fin 128) (k : Fin 768) :
    V m c main_v2 (ix3 s r k) = m ((c : Thread nD τ).loc main_arg0) (ix3 r s k) := by
  have e : V m c main_v2 = transpose S577x128x768 [1, 0, 2] (m ((c : Thread nD τ).loc main_arg0))
      transposes_S128x577x768_S577x128x768_1_0_2 := by
    unfold V hostOps0
    after_results <;> rfl
  rw [e]
  exact transpose_apply _ _ _ _ _ fun a => match a with | ⟨0, _⟩ => rfl | ⟨1, _⟩ => rfl | ⟨2, _⟩ => rfl

/-- The reshaped visual bias at (0, n) is the bias at n. -/
theorem entry_visual_bias (u : Fin 1) (n : Fin 512) :
    V m c main_v0 (ix2 u n) = m ((c : Thread nD τ).loc main_arg6) (ix1 n) := by
  have e : V m c main_v0 = shapeCast S1x512 (m ((c : Thread nD τ).loc main_arg6)) shapeCasts_S512_S1x512 := by
    unfold V hostOps0
    after_results <;> rfl
  rw [e]
  exact shapeCast_a_1a_apply _ _ _ _

/-- The reshaped textual bias at (0, n) is the bias at n. -/
theorem entry_textual_bias (u : Fin 1) (n : Fin 512) :
    V m c main_v1 (ix2 u n) = m ((c : Thread nD τ).loc main_arg8) (ix1 n) := by
  have e : V m c main_v1 = shapeCast S1x512 (m ((c : Thread nD τ).loc main_arg8)) shapeCasts_S512_S1x512 := by
    unfold V hostOps0
    after_results <;> rfl
  rw [e]
  exact shapeCast_a_1a_apply _ _ _ _

/-! ## The blocks: on the grid's one point every window stands at the start of its array -/

/-- Every window's block index is zero on every axis. -/
theorem index_zero : ∀ (w : Fin cfg0.W) (t : Fin cfg0.N) (a : Fin (cfg0.win w).shape.rank), (cfg0.win w).index t a = 0 :=
  (by decide +kernel : ∀ (w : Fin 8) (t : Fin grid0.N) (a : Fin (win0 w).shape.rank), (win0 w).index t a = 0)

/-- So an element of a block keeps its coordinates in the array. -/
theorem emb_val (w : Fin cfg0.W) (t : Fin cfg0.N) (y : ((cfg0.win w).xblock (cfg0.grid.coords t)).Idx)
    (a : Fin (cfg0.win w).shape.rank) : (((cfg0.win w).rect t).emb y a : ℕ) = y a :=
  (cfg0.win w).rect_emb_val_of_index_zero t a (index_zero w t a) y

/-- The feature block holds, at (image, feature), feature `k` of the first token of image `r`. -/
theorem block_features (t : Fin cfg0.N) (r : Fin 128) (k : Fin 768) :
    iblk m c 0 t (ix3 (0 : Fin 1) r k) = m ((c : Thread nD τ).loc main_arg0) (ix3 r (0 : Fin 577) k) := by
  refine Eq.trans ?_ (entry_features m c (0 : Fin 577) r k)
  show V m c main_v2 (((cfg0.win 0).rect t).emb (ix3 (0 : Fin 1) r k)) = _
  refine congrArg (V m c main_v2) (funext fun a => Fin.ext ((emb_val 0 t _ a).trans ?_))
  match a with
  | ⟨0, _⟩ => rfl
  | ⟨1, _⟩ => rfl
  | ⟨2, _⟩ => rfl

/-- The textual features, one block. -/
theorem block_text (t : Fin cfg0.N) (r : Fin 128) (k : Fin 768) :
    iblk m c 1 t (ix2 r k) = m ((c : Thread nD τ).loc main_arg1) (ix2 r k) := by
  refine Eq.trans ?_ (congrFun (V_main_arg1 m c) (ix2 r k))
  show V m c main_arg1 (((cfg0.win 1).rect t).emb (ix2 r k)) = _
  exact congrArg (V m c main_arg1) (funext fun a => Fin.ext (emb_val 1 t _ a))

/-- The visual layer's weights, one block. -/
theorem block_visual_weight (t : Fin cfg0.N) (k : Fin 768) (n : Fin 512) :
    iblk m c 2 t (ix2 k n) = m ((c : Thread nD τ).loc main_arg5) (ix2 k n) := by
  refine Eq.trans ?_ (congrFun (V_main_arg5 m c) (ix2 k n))
  show V m c main_arg5 (((cfg0.win 2).rect t).emb (ix2 k n)) = _
  exact congrArg (V m c main_arg5) (funext fun a => Fin.ext (emb_val 2 t _ a))

/-- The visual layer's bias, one block. -/
theorem block_visual_bias (t : Fin cfg0.N) (n : Fin 512) :
    iblk m c 3 t (ix2 (0 : Fin 1) n) = m ((c : Thread nD τ).loc main_arg6) (ix1 n) := by
  refine Eq.trans ?_ (entry_visual_bias m c 0 n)
  show V m c main_v0 (((cfg0.win 3).rect t).emb (ix2 (0 : Fin 1) n)) = _
  exact congrArg (V m c main_v0) (funext fun a => Fin.ext (emb_val 3 t _ a))

/-- The textual layer's weights, one block. -/
theorem block_text_weight (t : Fin cfg0.N) (k : Fin 768) (n : Fin 512) :
    iblk m c 4 t (ix2 k n) = m ((c : Thread nD τ).loc main_arg7) (ix2 k n) := by
  refine Eq.trans ?_ (congrFun (V_main_arg7 m c) (ix2 k n))
  show V m c main_arg7 (((cfg0.win 4).rect t).emb (ix2 k n)) = _
  exact congrArg (V m c main_arg7) (funext fun a => Fin.ext (emb_val 4 t _ a))

/-- The textual layer's bias, one block. -/
theorem block_text_bias (t : Fin cfg0.N) (n : Fin 512) :
    iblk m c 5 t (ix2 (0 : Fin 1) n) = m ((c : Thread nD τ).loc main_arg8) (ix1 n) := by
  refine Eq.trans ?_ (entry_textual_bias m c 0 n)
  show V m c main_v1 (((cfg0.win 5).rect t).emb (ix2 (0 : Fin 1) n)) = _
  exact congrArg (V m c main_v1) (funext fun a => Fin.ext (emb_val 5 t _ a))

/-! ## What the body leaves, and the arrays after the run -/

/-- The visual embedding of device `c`'s arguments. -/
abbrev visualOf : Buf (Elt Ideal) ((c : Thread nD τ).loc main_v3_0) :=
  visual (m ((c : Thread nD τ).loc main_arg0)) (m ((c : Thread nD τ).loc main_arg5)) (m ((c : Thread nD τ).loc main_arg6))

/-- The textual embedding of device `c`'s arguments. -/
abbrev textualOf : Buf (Elt Ideal) ((c : Thread nD τ).loc main_v3_1) :=
  textual (m ((c : Thread nD τ).loc main_arg1)) (m ((c : Thread nD τ).loc main_arg7)) (m ((c : Thread nD τ).loc main_arg8))

theorem off2 : (![0, 0] : Fin 2 → ℕ) = fun _ => 0 := by decide
theorem off3 : (![0, 0, 0] : Fin 3 → ℕ) = fun _ => 0 := by decide

/-- The body leaves the visual embedding in the first output's buffer. -/
theorem body_visual (t : Fin cfg0.N) (r : Fin 128) (n : Fin 512) :
    out0_6 (iblk m c 0 t) (iblk m c 1 t) (iblk m c 2 t) (iblk m c 3 t) (iblk m c 4 t) (iblk m c 5 t) (ix2 r n)
      = visualOf m c (ix2 r n) := by
  unfold out0_6
  rw [View.canon_unit_zero off2, View.ld_unit_zero off3, View.ld_unit_zero off2, View.ld_unit_zero off2]
  refine (pay1_apply _ _ _ r n).trans ?_
  simp only [block_features, block_visual_weight, block_visual_bias]
  rfl

/-- The body leaves the textual embedding in the second output's buffer. -/
theorem body_textual (t : Fin cfg0.N) (r : Fin 128) (n : Fin 512) :
    out0_7 (iblk m c 0 t) (iblk m c 1 t) (iblk m c 2 t) (iblk m c 3 t) (iblk m c 4 t) (iblk m c 5 t) (ix2 r n)
      = textualOf m c (ix2 r n) := by
  unfold out0_7
  rw [View.canon_unit_zero off2, View.ld_unit_zero off2, View.ld_unit_zero off2, View.ld_unit_zero off2]
  refine (pay2_apply _ _ _ r n).trans ?_
  simp only [block_text, block_text_weight, block_text_bias]
  rfl

/-- The first result's one block is its array, index by index. -/
theorem emb_visual (t : Fin cfg0.N) (i : S128x512.Idx) : ((cfg0.win 6).blk t).view.emb i = i :=
  funext fun a => Fin.ext (emb_val 6 t i a)

/-- The second result's one block is its array, index by index. -/
theorem emb_textual (t : Fin cfg0.N) (i : S128x512.Idx) : ((cfg0.win 7).blk t).view.emb i = i :=
  funext fun a => Fin.ext (emb_val 7 t i a)

/-- The first result array after the run is the visual embedding. -/
theorem final_visual : (dats m 0 c).arrAt 6 cfg0.N = visualOf m c := by
  refine (dats m 0 c).arrAt_eq_of_cover 6 (visualOf m c) (fun t _ => ?_) fun i => ?_
  · rw [Value.flushed6]
    funext i
    rw [View.read_apply, emb_visual, cast_eq]
    obtain ⟨r, n, rfl⟩ : ∃ (r : Fin 128) (n : Fin 512), i = ix2 r n := ⟨i 0, i 1, eq_ix2 i⟩
    exact body_visual m c t r n
  · refine ⟨⟨0, by decide⟩, flush0_6 _, ?_⟩
    have h := ((cfg0.win 6).blk ⟨0, by decide⟩).view.emb_mem_set i
    rwa [emb_visual] at h

/-- The second result array after the run is the textual embedding. -/
theorem final_textual : (dats m 0 c).arrAt 7 cfg0.N = textualOf m c := by
  refine (dats m 0 c).arrAt_eq_of_cover 7 (textualOf m c) (fun t _ => ?_) fun i => ?_
  · rw [Value.flushed7]
    funext i
    rw [View.read_apply, emb_textual, cast_eq]
    obtain ⟨r, n, rfl⟩ : ∃ (r : Fin 128) (n : Fin 512), i = ix2 r n := ⟨i 0, i 1, eq_ix2 i⟩
    exact body_textual m c t r n
  · refine ⟨⟨0, by decide⟩, flush0_7 _, ?_⟩
    have h := ((cfg0.win 7).blk ⟨0, by decide⟩).view.emb_mem_set i
    rwa [emb_textual] at h

end Cert.Head.Kernel

end
-- ==== Proof.Head.ReferenceValue.lean ====
/-
  The reference's two results are the embeddings of `Layer`: its slice and reshape pick the first token of every image, its
  two products are the layers' sums, and its two broadcasts repeat the bias along the rows.
-/
module

public import proofs.«01_k».proof.Proof.Head.Layer
public import proofs.«01_k».proof.Proof.Gen.ReferenceIdeal.Read

@[expose] public section

noncomputable section

namespace Cert.Head.Reference

open Cert.ReferenceIdeal Cert.ReferenceIdeal.Read Idealize.ShloMosaic Idealize.ShloMosaic.ValueIdx

/-- The sliced and reshaped features read at an index: row `r`, feature `k` is feature `k` of the first token of image `r`. -/
theorem token_apply (x : S128x577x768.Idx → EReal) (r : Fin 128) (k : Fin 768) :
    val_main_v1 (F := Ideal) x (ix2 r k) = x (ix3 r (0 : Fin 577) k) := by
  rw [val_main_v1_apply, val_main_v0_apply]
  refine congrArg x (funext fun a => Fin.ext ?_)
  have hk := k.isLt
  match a with
  | ⟨0, _⟩ => show (r.val * 768 + k.val) / 768 = r.val; omega
  | ⟨1, _⟩ => rfl
  | ⟨2, _⟩ => show (r.val * 768 + k.val) % 768 = k.val; omega

/-- The reference's first result is the visual embedding. -/
theorem visual_eq (x : S128x577x768.Idx → EReal) (w : S768x512.Idx → EReal) (b : S512.Idx → EReal) :
    val_main_v5 (F := Ideal) x w b = visual x w b := by
  funext i
  rw [val_main_v5_apply, val_main_v2_apply, val_main_v4_apply, val_main_v3_apply, Ideal.addf_def]
  unfold visual affine
  refine congrArg₂ (· + ·) (Finset.sum_congr rfl fun k _ => congrArg₂ (· * ·) ?_ (congrArg w ?_)) (congrArg b ?_)
  · rw [show lidx_main_v2 i k = ix2 (i 0) k from funext fun a => match a with | ⟨0, _⟩ => rfl | ⟨1, _⟩ => rfl]
    exact token_apply x (i 0) k
  · exact funext fun a => match a with | ⟨0, _⟩ => rfl | ⟨1, _⟩ => rfl
  · exact funext fun a => match a with | ⟨0, _⟩ => rfl

/-- The reference's second result is the textual embedding. -/
theorem textual_eq (x : S128x768.Idx → EReal) (w : S768x512.Idx → EReal) (b : S512.Idx → EReal) :
    val_main_v9 (F := Ideal) x w b = textual x w b := by
  funext i
  rw [val_main_v9_apply, val_main_v6_apply, val_main_v8_apply, val_main_v7_apply, Ideal.addf_def]
  unfold textual affine
  refine congrArg₂ (· + ·) (Finset.sum_congr rfl fun k _ => congrArg₂ (· * ·) (congrArg x ?_) (congrArg w ?_)) (congrArg b ?_)
  · exact funext fun a => match a with | ⟨0, _⟩ => rfl | ⟨1, _⟩ => rfl
  · exact funext fun a => match a with | ⟨0, _⟩ => rfl | ⟨1, _⟩ => rfl
  · exact funext fun a => match a with | ⟨0, _⟩ => rfl

end Cert.Head.Reference

end
-- ==== Proof.lean ====
/-
  The proof of `Cert.Claim`: the three frames, the idealization, and the equality of the kernel's two results with the
  reference's over the extended reals. The kernel's arrays are read in `Proof/Head/KernelValue`, the reference's in
  `Proof/Head/ReferenceValue`; both are the two embeddings stated in `Proof/Head/Layer`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Head.KernelValue
public import proofs.«01_k».proof.Proof.Head.ReferenceValue
public import Idealize.ShloMosaic.Adequacy
public import Idealize.ShloMosaic.Init
public import Idealize.ShloMosaic.Lib.Quiescent

@[expose] public section

noncomputable section

namespace Cert.Proof

open Idealize.ShloMosaic Idealize.SL.Sem

/-- The kernel terminates without fault, keeps its arguments, and leaves every counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference; it has no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Over the extended reals the kernel and the reference end with the same two arrays: the visual and the textual
    embedding of their common arguments. -/
theorem results_agree : Cert.algebraic_KernelIdeal_ReferenceIdeal := by
  intro m ρ m' ρ' _ hagree
  refine ⟨Cert.Head.Kernel.visualOf m, Cert.Head.Kernel.textualOf m, ?_, ?_⟩
  · exact (θ_run Cert.KernelIdeal.defs _ _).mono
      (fun _ h c => ⟨(h c).1.trans (Cert.Head.Kernel.final_visual m c),
        (h c).2.1.trans (Cert.Head.Kernel.final_textual m c), (h c).2.2⟩)
      (Cert.KernelIdeal.Value.run_blocks (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, _, _, _, _, a5, a6, _⟩ := hagree c
      rw [Cert.ReferenceIdeal.Read.val_main_v5_eq, a0, a5, a6]
      exact Cert.Head.Reference.visual_eq _ _ _
    · obtain ⟨_, a1, _, _, _, _, _, a7, a8, _⟩ := hagree c
      rw [Cert.ReferenceIdeal.Read.val_main_v9_eq, a1, a7, a8]
      exact Cert.Head.Reference.textual_eq _ _ _

theorem claim : Cert.Claim :=
  ⟨Cert.Kernel.Gen.facts, Cert.KernelIdeal.Gen.facts, Cert.ReferenceIdeal.Gen.facts,
    frame_kernel, frame_ideal, frame_reference, trivial, results_agree⟩

end Cert.Proof

end
